-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x768 : Shape := ⟨3, ![8, 1, 768]⟩
abbrev S8x1 : Shape := ⟨2, ![8, 1]⟩
abbrev S100000x768 : Shape := ⟨2, ![100000, 768]⟩
abbrev S100000 : Shape := ⟨1, ![100000]⟩
abbrev S8x768 : Shape := ⟨2, ![8, 768]⟩
abbrev S1x100000 : Shape := ⟨2, ![1, 100000]⟩
abbrev S8x100000 : Shape := ⟨2, ![8, 100000]⟩
abbrev S4096x768 : Shape := ⟨2, ![4096, 768]⟩
abbrev S8x4096 : Shape := ⟨2, ![8, 4096]⟩
abbrev S1x4096 : Shape := ⟨2, ![1, 4096]⟩
abbrev S1696x768 : Shape := ⟨2, ![1696, 768]⟩
abbrev S8x1696 : Shape := ⟨2, ![8, 1696]⟩
abbrev S1x1696 : Shape := ⟨2, ![1, 1696]⟩
abbrev S8x1x100000 : Shape := ⟨3, ![8, 1, 100000]⟩

abbrev nBuf : Space → Nat
  | .hbm => 8
  | .vmem => 5
  | .smem => 0
  | _ => 0

abbrev bufTy : (tb : Table) → Fin (tcTables nBuf tb) → BufTy
  | .hbm, ⟨0, _⟩ => ⟨S8x1x768, .f32⟩
  | .hbm, ⟨1, _⟩ => ⟨S8x1, .i32⟩
  | .hbm, ⟨2, _⟩ => ⟨S100000x768, .f32⟩
  | .hbm, ⟨3, _⟩ => ⟨S100000, .f32⟩
  | .hbm, ⟨4, _⟩ => ⟨S8x768, .f32⟩
  | .hbm, ⟨5, _⟩ => ⟨S1x100000, .f32⟩
  | .hbm, ⟨6, _⟩ => ⟨S8x100000, .f32⟩
  | .hbm, ⟨7, _⟩ => ⟨S8x1x100000, .f32⟩
  | .local _ .vmem, ⟨0, _⟩ => ⟨S8x768, .f32⟩
  | .local _ .vmem, ⟨1, _⟩ => ⟨S4096x768, .f32⟩
  | .local _ .vmem, ⟨2, _⟩ => ⟨S4096x768, .f32⟩
  | .local _ .vmem, ⟨3, _⟩ => ⟨S1x100000, .f32⟩
  | .local _ .vmem, ⟨4, _⟩ => ⟨S8x100000, .f32⟩
  | _, _ => ⟨S8x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c24_i32 : BitVec 32 := 24#32
  let v1 : BitVec 1 := Scalar.cmpi .slt arg0 c24_i32
  let v2 : BitVec 32 := Scalar.extui v1
  let c0_i32 : BitVec 32 := 0#32
  let v3 : BitVec 1 := Scalar.cmpi .ne v2 c0_i32
  v3

def k0_off1 (i : grid0.Coords) : Fin 2 → Nat :=
  let c0_5 : Index := 0#32
  let arg0 : BitVec 32 := BitVec.ofNat 32 (i 0).val
  let c4096_i32 : BitVec 32 := 4096#32
  let v0 : BitVec 32 := Scalar.muli arg0 c4096_i32
  let v11 : Index := Scalar.indexCast v0
  ![0, v11.toNat]
def k0_off2 (i : grid0.Coords) : Fin 2 → Nat :=
  let c0_6 : Index := 0#32
  let arg0 : BitVec 32 := BitVec.ofNat 32 (i 0).val
  let c4096_i32 : BitVec 32 := 4096#32
  let v0 : BitVec 32 := Scalar.muli arg0 c4096_i32
  let v16 : Index := Scalar.indexCast v0
  ![0, v16.toNat]
def k0_cond2 (i : grid0.Coords) : BitVec 1 :=
  let arg0 : BitVec 32 := BitVec.ofNat 32 (i 0).val
  let c24_i32_0 : BitVec 32 := 24#32
  let v4 : BitVec 1 := Scalar.cmpi .eq arg0 c24_i32_0
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x100000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x100000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1x768 : Shape := ⟨3, ![8, 1, 768]⟩
abbrev S8x1 : Shape := ⟨2, ![8, 1]⟩
abbrev S100000x768 : Shape := ⟨2, ![100000, 768]⟩
abbrev S100000 : Shape := ⟨1, ![100000]⟩
abbrev S8x1x100000 : Shape := ⟨3, ![8, 1, 100000]⟩
abbrev S1x1x100000 : Shape := ⟨3, ![1, 1, 100000]⟩
abbrev S_ : Shape := ⟨0, ![]⟩
abbrev S8x1x1 : Shape := ⟨3, ![8, 1, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x1x768, .f32⟩
  | .hbm, ⟨1, _⟩ => ⟨S8x1, .i32⟩
  | .hbm, ⟨2, _⟩ => ⟨S100000x768, .f32⟩
  | .hbm, ⟨3, _⟩ => ⟨S100000, .f32⟩
  | .hbm, ⟨4, _⟩ => ⟨S8x1x100000, .f32⟩
  | .hbm, ⟨5, _⟩ => ⟨S1x1x100000, .f32⟩
  | .hbm, ⟨6, _⟩ => ⟨S8x1x100000, .f32⟩
  | .hbm, ⟨7, _⟩ => ⟨S8x1x100000, .f32⟩
  | .hbm, ⟨8, _⟩ => ⟨S_, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .f32⟩
  | .hbm, ⟨13, _⟩ => ⟨S8x1x1, .f32⟩
  | .hbm, ⟨14, _⟩ => ⟨S8x1x100000, .f32⟩
  | .hbm, ⟨15, _⟩ => ⟨S8x1x100000, .f32⟩
  | .hbm, ⟨16, _⟩ => ⟨S8x1x100000, .f32⟩
  | .hbm, ⟨17, _⟩ => ⟨S_, .f32⟩
  | .hbm, ⟨18, _⟩ => ⟨S8x1, .f32⟩
  | .hbm, ⟨19, _⟩ => ⟨S8x1x1, .f32⟩
  | .hbm, ⟨20, _⟩ => ⟨S8x1x1, .f32⟩
  | .hbm, ⟨21, _⟩ => ⟨S8x1x100000, .f32⟩
  | .hbm, ⟨22, _⟩ => ⟨S8x1x100000, .f32⟩
  | .hbm, ⟨23, _⟩ => ⟨S8x1x1, .i32⟩
  | .hbm, ⟨24, _⟩ => ⟨S_, .i32⟩
  | .hbm, ⟨25, _⟩ => ⟨S8x1x1, .i32⟩
  | .hbm, ⟨26, _⟩ => ⟨S8x1x1, .i1⟩
  | .hbm, ⟨27, _⟩ => ⟨S_, .i32⟩
  | .hbm, ⟨28, _⟩ => ⟨S8x1x1, .i32⟩
  | .hbm, ⟨29, _⟩ => ⟨S8x1x1, .i32⟩
  | .hbm, ⟨30, _⟩ => ⟨S8x1x1, .i32⟩
  | .hbm, ⟨31, _⟩ => ⟨S1, .i32⟩
  | .hbm, ⟨32, _⟩ => ⟨S_, .i32⟩
  | .hbm, ⟨33, _⟩ => ⟨S8x1x1, .i32⟩
  | .hbm, ⟨34, _⟩ => ⟨S8x1x1, .i1⟩
  | .hbm, ⟨35, _⟩ => ⟨S1x1x1, .i32⟩
  | .hbm, ⟨36, _⟩ => ⟨S8x1x1, .i32⟩
  | .hbm, ⟨37, _⟩ => ⟨S8x1x1, .i1⟩
  | .hbm, ⟨38, _⟩ => ⟨S8x1x1, .i1⟩
  | .hbm, ⟨39, _⟩ => ⟨S_, .i1⟩
  | .hbm, ⟨40, _⟩ => ⟨S8x1, .i1⟩
  | .hbm, ⟨41, _⟩ => ⟨S8x1x1, .f32⟩
  | .hbm, ⟨42, _⟩ => ⟨S8x1x1, .i1⟩
  | .hbm, ⟨43, _⟩ => ⟨S_, .f32⟩
  | .hbm, ⟨44, _⟩ => ⟨S8x1x1, .f32⟩
  | .hbm, ⟨45, _⟩ => ⟨S8x1x1, .f32⟩
  | .hbm, ⟨46, _⟩ => ⟨S8x1, .f32⟩
  | .hbm, ⟨47, _⟩ => ⟨S8x1, .f32⟩
  | _, _ => ⟨S8x1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_v5 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_c_2 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_c_3 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩

abbrev nD : Nat := 1
abbrev τ : Topo := Topo.v7x

variable {F : FTy → Type} [FloatOps F]
-- ==== Proof.Body.KernelIdeal.lean ====
/- The kernel body of `Cert.KernelIdeal` at one grid point, as a triple over the four staging buffers: at the first 24 points it lays
   the product of the whole weight block over the point's 4096 result columns, at the last one the product of the block's first
   1696 rows over the last 1696 columns; every other result column, and the three input buffers, stay as found. -/
module

public import proofs.«01_k».proof.Proof.Gen.KernelIdeal.Skeleton
public import proofs.«01_k».proof.Proof.Gen.KernelIdeal.Frame
public import Idealize.ShloMosaic.Lib.Pipeline.Value

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's variants: none. -/
abbrev 𝒱₀ : Variants := Variants.none

/-- The result columns that a point before the last writes: 4096 of them from the point's offset. -/
abbrev colRect (i : grid0.Coords) (h : k0_cond1 i = 1#1) : Rect S8x100000 :=
  Rect.unit (s := S8x100000) (k0_off2 i) S8x4096.size (k0_off2_inb i h)
/-- The bias entries of those columns. -/
abbrev biasRect (i : grid0.Coords) (h : k0_cond1 i = 1#1) : Rect S1x100000 :=
  Rect.unit (s := S1x100000) (k0_off1 i) S1x4096.size (k0_off1_inb i h)
/-- The result columns that the last point writes: the 1696 from 98304 on. -/
abbrev colRectLast : Rect S8x100000 :=
  Rect.unit (s := S8x100000) ![0, 98304] S8x1696.size inb_S8x100000_S8x1696_0_98304
/-- The bias entries of those columns. -/
abbrev biasRectLast : Rect S1x100000 :=
  Rect.unit (s := S1x100000) ![0, 98304] S1x1696.size inb_S1x100000_S1x1696_0_98304
/-- The rows of the weight block that the last point reads: the first 1696. -/
abbrev rowRectLast : Rect S4096x768 :=
  Rect.unit (s := S4096x768) ![0, 0] S1696x768.size inb_S4096x768_S1696x768_0_0

/-- A buffer that held `X`, read after one write through a rectangle, is `X` with the payload laid over the rectangle. -/
theorem read_writes_one {s : Shape} {e : EltTy} {sp : Space} (v : View sig .tc sp s e) (f : v.ty.Contents (Elt F)) (r : Rect s)
    (w : r.shape.Idx → Elt F e) : v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · exact (View.read_writes_cons_miss v f ⟨r, w⟩ [] y hy).trans (r.overlay_of_not_mem _ _ hy).symm

/-- At a point before the last: the block's product and bias laid over the point's columns. -/
theorem sound_block (c : Dev nD) (E : Set ℕ) (i : grid0.Coords) (hc1 : k0_cond1 i = 1#1) (hc2 : ¬ k0_cond2 i = 1#1)
    (a1 : Memref sig .tc .vmem S8x768 .f32) (h1 : a1.IsWhole) (a2 : Memref sig .tc .vmem S4096x768 .f32) (h2 : a2.IsWhole)
    (a3 : Memref sig .tc .vmem S1x100000 .f32) (h3 : a3.IsWhole) (a4 : Memref sig .tc .vmem S8x100000 .f32) (h4 : a4.IsWhole)
    (X0 : Vec F S8x768 .f32) (X1 : Vec F S4096x768 .f32) (X2 : Vec F S1x100000 .f32) (X3 : Vec F S8x100000 .f32)
    (K : PUnit → sProp 𝕄) :
    iprop((owns (c : Thread nD τ) a1 fullShare X0 ∗ owns (c : Thread nD τ) a2 fullShare X1
            ∗ owns (c : Thread nD τ) a3 fullShare X2 ∗ owns (c : Thread nD τ) a4 fullShare X3)
          ∗ (iprop(owns (c : Thread nD τ) a1 fullShare X0 ∗ owns (c : Thread nD τ) a2 fullShare X1
                ∗ owns (c : Thread nD τ) a3 fullShare X2
                ∗ owns (c : Thread nD τ) a4 fullShare
                    ((colRect i hc1).overlay X3 (k0_pay1 X0 X1 (View.ld X2 (biasRect i hc1))))) -∗ K ⟨⟩))
      ⊢ wp frame (wpE (defs₀ (F := F)) 𝒱₀ c none) E (cc0__body i a1 h1 a2 h2 a3 h3 a4 h4) K := by
  have hz : (![0, 0] : Fin 2 → Nat) = fun _ => 0 := funext fun a => by fin_cases a <;> rfl
  simp only [cc0__body_eq_skeleton]; unfold cc0__body_skel owns
  iintro ⟨⟨⟨%f0, %hf0, H0⟩, ⟨%f1, %hf1, H1⟩, ⟨%f2, %hf2, H2⟩, ⟨%f3, %hf3, H3⟩⟩, Hk⟩
  sl_exec (disch := first | sl_exact hc1 | sl_exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists _; isplitr
    swap; · iexact H3
    ipureintro
    subst hf0 hf1 hf2 hf3
    refine (read_writes_one _ _ _ _).trans ?_
    rw [View.readAt_eq_ld, View.readAt_eq_ld, View.readAt_eq_ld, View.ld_unit_zero hz, View.ld_unit_zero hz]

/-- At the last point: the product of the block's first 1696 rows and the bias laid over the last 1696 columns. -/
theorem sound_last (c : Dev nD) (E : Set ℕ) (i : grid0.Coords) (hc1 : ¬ k0_cond1 i = 1#1) (hc2 : k0_cond2 i = 1#1)
    (a1 : Memref sig .tc .vmem S8x768 .f32) (h1 : a1.IsWhole) (a2 : Memref sig .tc .vmem S4096x768 .f32) (h2 : a2.IsWhole)
    (a3 : Memref sig .tc .vmem S1x100000 .f32) (h3 : a3.IsWhole) (a4 : Memref sig .tc .vmem S8x100000 .f32) (h4 : a4.IsWhole)
    (X0 : Vec F S8x768 .f32) (X1 : Vec F S4096x768 .f32) (X2 : Vec F S1x100000 .f32) (X3 : Vec F S8x100000 .f32)
    (K : PUnit → sProp 𝕄) :
    iprop((owns (c : Thread nD τ) a1 fullShare X0 ∗ owns (c : Thread nD τ) a2 fullShare X1
            ∗ owns (c : Thread nD τ) a3 fullShare X2 ∗ owns (c : Thread nD τ) a4 fullShare X3)
          ∗ (iprop(owns (c : Thread nD τ) a1 fullShare X0 ∗ owns (c : Thread nD τ) a2 fullShare X1
                ∗ owns (c : Thread nD τ) a3 fullShare X2
                ∗ owns (c : Thread nD τ) a4 fullShare
                    (colRectLast.overlay X3 (k0_pay2 X0 (View.ld X1 rowRectLast) (View.ld X2 biasRectLast)))) -∗ K ⟨⟩))
      ⊢ wp frame (wpE (defs₀ (F := F)) 𝒱₀ c none) E (cc0__body i a1 h1 a2 h2 a3 h3 a4 h4) K := by
  have hz : (![0, 0] : Fin 2 → Nat) = fun _ => 0 := funext fun a => by fin_cases a <;> rfl
  simp only [cc0__body_eq_skeleton]; unfold cc0__body_skel owns
  iintro ⟨⟨⟨%f0, %hf0, H0⟩, ⟨%f1, %hf1, H1⟩, ⟨%f2, %hf2, H2⟩, ⟨%f3, %hf3, H3⟩⟩, Hk⟩
  sl_exec (disch := first | sl_exact hc1 | sl_exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists _; isplitr
    swap; · iexact H3
    ipureintro
    subst hf0 hf1 hf2 hf3
    refine (read_writes_one _ _ _ _).trans ?_
    rw [View.readAt_eq_ld, View.readAt_eq_ld, View.readAt_eq_ld, View.ld_unit_zero hz]

end Cert.KernelIdeal.Body

end
-- ==== Proof.Run.KernelIdeal.lean ====
/- The pipelined region of `Cert.KernelIdeal`: its proof data, the body's obligation at each of the 25 grid points, and the claim that
   a run leaves the arguments as they were with every semaphore counter at zero. The result's staging buffer starts at contents that
   nothing names and each point writes only its own columns, so that window is held to a predicate, not to named contents. -/
module

public import proofs.«01_k».proof.Proof.Body.KernelIdeal
public import Idealize.ShloMosaic.Lib.Pipeline.DatRel
public import Idealize.ShloMosaic.Lib.Pipeline.ArrRel
public import Idealize.ShloMosaic.Lib.Pipeline.FrameSuffix

@[expose] public section

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ)

/-! ## The grid -/

/-- A point's one coordinate is its number. -/
theorem coord_val : ∀ t : Fin cfg0.N, (grid0.coords t 0).val = t.val :=
  (by decide +kernel : ∀ t : Fin grid0.N, (grid0.coords t 0).val = t.val)

/-- The first branch is taken at the points before the last. -/
theorem cond1_iff (i : grid0.Coords) : k0_cond1 i = 1#1 ↔ (i 0).val < 24 := by
  unfold k0_cond1
  generalize (i 0) = n
  revert n
  decide +kernel

/-- The second branch is taken at the last point. -/
theorem cond2_iff (i : grid0.Coords) : k0_cond2 i = 1#1 ↔ (i 0).val = 24 := by
  unfold k0_cond2
  generalize (i 0) = n
  revert n
  decide +kernel

/-- The window that is held to a predicate: the result's. -/
def fgt : Fin cfg0.W → Bool := ![false, false, false, true]

/-- A predicate on the result's staging buffer after each point, as a predicate on every window. -/
def onResult (R : Fin cfg0.N → Vec F S8x100000 .f32 → Prop) (w : Fin cfg0.W) (t : Fin cfg0.N) :
    ((cfg0.win w).block.Idx → Elt F (cfg0.win w).elt) → Prop :=
  match w with
  | ⟨3, _⟩ => fun X => R t X
  | ⟨0, _⟩ | ⟨1, _⟩ | ⟨2, _⟩ => fun _ => True

/-- The weight block that the body finds at point `t`: the rows inside the array as fetched, `d` on the rows past its end. -/
abbrev weight (c : Dev nD) (t : Fin cfg0.N) (d : Vec F S4096x768 .f32) : Vec F S4096x768 .f32 :=
  win0_1.fill (grid0.coords t) d (iblk m c 1 t)

/-- The proof data: the arrays as the region finds them; the three input buffers at their blocks after every point, the weight block
    filled out with zeros past the array's end. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => weight m c t fun _ => Scalar.ofBits .f32 0#32
    | ⟨2, _⟩ => iblk m c 2 t
    | ⟨3, _⟩ => fun _ => Scalar.ofBits .f32 0#32
  Φ _ := Pipeline.ΦA spec0 c
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = weight m c t d := by
  unfold Dat.before; rw [if_pos (fetch0_1 t)]; rfl
theorem before_2 (c : Dev nD) (t : Fin cfg0.N) (d) : (dats m 0 c).before 2 t d = iblk m c 2 t :=
  before0_2_of m (dats m 0 c) rfl (fun _ => rfl) t d

/-- The kernel's row of the table is the body at the point. -/
theorem defs₀_row (t : Fin cfg0.N) : (defs₀ (F := F)) .tc cfg0.body (cfg0.bodyArgs t (cfg0.slots t)) = bodyAt0 t := by
  unfold defs₀; rw [Defs.onTc_tc]

/-- What is found in the result's buffer after the first point satisfies the predicate of the point before. -/
theorem found_prev (R : Fin cfg0.N → Vec F S8x100000 .f32 → Prop) (c : Dev nD) (t : Fin cfg0.N) (ht : t.val ≠ 0) (X : Vec F S8x100000 .f32)
    (hX : ((dats m 0 c).toRRel fgt (onResult R)).Finds 3 t X) : R ⟨t.val - 1, Nat.lt_of_le_of_lt (Nat.sub_le _ _) t.isLt⟩ X := by
  rw [RDat.finds_of_pos _ ((cfg0.win 3).fetch_out rfl _) ht] at hX
  rcases hX with h | h
  · have h24 := (flush0_3 _).mp h
    have hlt : t.val < 25 := N_0 ▸ t.isLt
    simp only at h24
    omega
  · exact (dats m 0 c).toRRel_leaves (Rl := onResult R) (w := 3) rfl h

/-- THE BODY'S OBLIGATION for a predicate on the result's buffer that every point establishes from the point before's (`hblock` at the
    points before the last, `hlast` at the last). -/
theorem body_obligation (R : Fin cfg0.N → Vec F S8x100000 .f32 → Prop) (c : Dev nD)
    (hblock : ∀ (t : Fin cfg0.N) (h : k0_cond1 (grid0.coords t) = 1#1) (d : Vec F S4096x768 .f32) (X : Vec F S8x100000 .f32),
      (∀ ht : t.val ≠ 0, R ⟨t.val - 1, Nat.lt_of_le_of_lt (Nat.sub_le _ _) t.isLt⟩ X) →
      R t ((colRect (grid0.coords t) h).overlay X
        (k0_pay1 (iblk m c 0 t) (weight m c t d) (View.ld (iblk m c 2 t) (biasRect (grid0.coords t) h)))))
    (hlast : ∀ (t : Fin cfg0.N) (_ : t.val = 24) (d : Vec F S4096x768 .f32) (X : Vec F S8x100000 .f32),
      (∀ ht : t.val ≠ 0, R ⟨t.val - 1, Nat.lt_of_le_of_lt (Nat.sub_le _ _) t.isLt⟩ X) →
      R t (colRectLast.overlay X
        (k0_pay2 (iblk m c 0 t) (View.ld (weight m c t d) rowRectLast) (View.ld (iblk m c 2 t) biasRectLast)))) :
    BodyObligationRel (dats m 0 c) (defs₀ (F := F)) 𝒱₀ () Set.univ fgt (onResult R) := fun t => by
  have hcut : win0_1.cut (grid0.coords t) (weight m c t fun _ => Scalar.ofBits .f32 0#32) = iblk m c 1 t := win0_1.cut_fill _ _ _
  rw [bigSep_W0, bigSep_W0, defs₀_row]
  rw [show (dats m 0 c).Φ t.succ = (dats m 0 c).Φ t.castSucc from rfl,
    show (dats m 0 c).owesAt () t.succ = (dats m 0 c).owesAt () t.castSucc from rfl]
  simp only [show fgt 0 = false from rfl, show fgt 1 = false from rfl, show fgt 2 = false from rfl, show fgt 3 = true from rfl]
  iintro ⟨HΦ, Ho, ⟨%d0, H0⟩, ⟨%d1, H1⟩, ⟨%d2, H2⟩, ⟨%X, %hX, H3⟩⟩
  rw [before_0 m c t d0, before_1 m c t d1, before_2 m c t d2]
  by_cases hc1 : k0_cond1 (grid0.coords t) = 1#1
  · have hc2 : ¬ k0_cond2 (grid0.coords t) = 1#1 := by
      rw [cond2_iff]; have := (cond1_iff _).mp hc1; omega
    iapply (sound_block c Set.univ (grid0.coords t) hc1 hc2 _ _ _ _ _ _ _ _ (iblk m c 0 t) (weight m c t d1) (iblk m c 2 t) X _)
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]; · iexact H0
    isplitl [H1]
    · iexists d1
      change _ ⊢ owns (c : Thread nD τ) (st0_1 t) fullShare
        (win0_1.fill (grid0.coords t) d1 (win0_1.cut (grid0.coords t) (weight m c t fun _ => Scalar.ofBits .f32 0#32)))
      rw [hcut]; try iexact H1
    isplitl [H2]; · iexact H2
    iexists _
    isplitr
    swap; · iexact H3
    ipureintro
    exact hblock t hc1 d1 X fun ht => found_prev m R c t ht X hX
  · have h24 : t.val = 24 := by
      have hlt : t.val < 25 := N_0 ▸ t.isLt
      rw [cond1_iff, coord_val] at hc1; omega
    have hc2 : k0_cond2 (grid0.coords t) = 1#1 := by rw [cond2_iff, coord_val]; exact h24
    iapply (sound_last c Set.univ (grid0.coords t) hc1 hc2 _ _ _ _ _ _ _ _ (iblk m c 0 t) (weight m c t d1) (iblk m c 2 t) X _)
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]; · iexact H0
    isplitl [H1]
    · iexists d1
      change _ ⊢ owns (c : Thread nD τ) (st0_1 t) fullShare
        (win0_1.fill (grid0.coords t) d1 (win0_1.cut (grid0.coords t) (weight m c t fun _ => Scalar.ofBits .f32 0#32)))
      rw [hcut]; try iexact H1
    isplitl [H2]; · iexact H2
    iexists _
    isplitr
    swap; · iexact H3
    ipureintro
    exact hlast t h24 d1 X fun ht => found_prev m R c t ht X hX

/-! ## The frame -/

/-- The buffer that the host line after the region writes. -/
abbrev tailOut : Finset (Ref sig .tc) := {main_v3}

/-- The host line after the region writes that buffer only. -/
theorem tail_writes : ∀ ops ∈ ([hostOps1] : List (List (HloOp τ sig (Elt F)))), ∀ op ∈ ops, ∀ b : Ref sig .tc,
    Proc.devRef .tc b ∈ op.writes → b ∈ tailOut := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra hne
  exact StableHlo.devRef_ne_of_ne (fun e => hne (by rw [e]; exact Finset.mem_singleton_self _)) hb

/-- A run leaves every argument as it was, with every semaphore counter at zero. -/
theorem run_frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.RDat.θ_run_frame_around_T cfgs 0 launch0 defs₀ 𝒱₀ (fun c => (dats m 0 c).toRRel fgt (onResult fun _ _ => True)) tailOut m ρ main
    (fun c => (body_obligation m (fun _ _ => True) c (fun _ _ _ _ _ => trivial) (fun _ _ _ _ _ => trivial)).toRRel)
    (fun c => (dats m 0 c).share_full fun _ => rfl) (fun _ _ => rfl) (V0 m) [hostOps1] sfx_sub sfx_fresh sfx_keeps tail_writes
    (hmain m 𝒱₀) (fun _ _ => rfl) (fun _ _ => rfl)
    (Q' := _) (hQ' := fun r h => ⟨fun c =>
      have bypass : ∀ b : Ref sig .tc, b ∈ Pipeline.restRefs sig spec0 \ tailOut → r.2.mem ((c.tc : Thread nD τ).loc b) = V m c b := (h.1 c).2
      ⟨(bypass main_arg0 (Finset.mem_sdiff.mpr ⟨Pipeline.mem_restRefs_of main_arg0 (by decide) (by decide), by decide⟩)).trans (V_main_arg0 m c),
        (bypass main_arg1 (Finset.mem_sdiff.mpr ⟨Pipeline.mem_restRefs_of main_arg1 (by decide) (by decide), by decide⟩)).trans (V_main_arg1 m c),
        (h.1.arr_in c 1 rfl).trans (V_main_arg2 m c),
        (bypass main_arg3 (Finset.mem_sdiff.mpr ⟨Pipeline.mem_restRefs_of main_arg3 (by decide) (by decide), by decide⟩)).trans (V_main_arg3 m c)⟩,
      h.2⟩)

end Cert.KernelIdeal.Run

end
-- ==== Proof.Around.lean ====
/- A launch theorem for one pipelined region followed by host lines, under relational proof data: the run ends with each window's
   array at contents the relation allows, and every other buffer at what the host lines compute from such contents. -/
module

public import Idealize.ShloMosaic.Lib.Pipeline.FrameSuffix

@[expose] public section

noncomputable section

namespace Cert.Around

open Idealize.ShloMosaic Idealize.ShloMosaic.TcCoe Idealize.ShloMosaic.Pipeline
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} [∀ e, Nonempty (Val e)]
variable {Λ₀ : Idealize.SL.Sem.Labels} {P : Type} [Fintype P] [DecidableEq P]
variable (cfgs : P → Cfg sig Λ₀) (p : P)

local notation "𝕄" => MT nD τ sig Unit Val ℕ (UR sig nD τ) ℕ

/-- The state after the run on core `c`: each array at contents the relation allows after the last write-back, every buffer outside
    the region at what the lines `opss` leave when they start from some such contents. -/
def Ends (c : Dev nD) (rd : RDat τ Val Unit ℕ (UR sig nD τ) ℕ (cfgs p) c) (V₀ : Valuation τ sig Val)
    (opss : List (List (HloOp τ sig Val))) (s : MemSt nD τ sig Val) : Prop :=
  (∀ w, rd.ArrAt w (cfgs p).N (s.mem (((cfgs p).spec w).arr.view.loc (c.tc : Thread nD τ)))) ∧
  ∃ A : (w : Fin (cfgs p).W) → Buf Val (((cfgs p).spec w).arr.view.loc (c.tc : Thread nD τ)),
    (∀ w, rd.ArrAt w (cfgs p).N (A w)) ∧
    ∀ b ∈ restRefs sig (cfgs p).spec, s.mem ((c.tc : Thread nD τ).loc b)
      = StableHlo.after opss.flatten (withArrays (cfgs p).spec c V₀ A) (Proc.devRef .tc b)

/-- The windows' arrays, one full points-to each, are the buffers behind them. -/
theorem arrays_bufs (kit : LaunchFacts (nD := nD) (τ := τ) cfgs p) (c : Dev nD) (V₀ : Valuation τ sig Val)
    (A : (w : Fin (cfgs p).W) → Buf Val (((cfgs p).spec w).arr.view.loc (c.tc : Thread nD τ))) :
    (bigSep Finset.univ fun w => (((c.tc : Thread nD τ).loc (arrRef (cfgs p).spec w)) ↦{fullShare} A w : sProp 𝕄))
      = arrBufs (cfgs p).spec c (fun b => withArrays (cfgs p).spec c V₀ A (Proc.devRef .tc b)) := by
  unfold arrBufs
  rw [Idealize.SL.BI.bigSep_image_of_injOn kit.win.arr_inj.injOn]
  exact BI.bigSep_congr fun w _ => by
    beta_reduce; rw [withArrays_arr _ kit.win.arr_inj]

/-- Arrays held at some contents with a property, opened: contents of all of them, each with its property. -/
theorem arrays_open (c : Dev nD) (R : (w : Fin (cfgs p).W) → Buf Val (((cfgs p).spec w).arr.view.loc (c.tc : Thread nD τ)) → Prop) :
    (bigSep Finset.univ fun w => iprop(∃ F, ⌜R w F⌝ ∗ (((c.tc : Thread nD τ).loc (arrRef (cfgs p).spec w)) ↦{fullShare} F : sProp 𝕄)))
      ⊢ iprop(∃ A : (w : Fin (cfgs p).W) → Buf Val (((cfgs p).spec w).arr.view.loc (c.tc : Thread nD τ)), ⌜∀ w, R w (A w)⌝
          ∗ bigSep Finset.univ fun w => (((c.tc : Thread nD τ).loc (arrRef (cfgs p).spec w)) ↦{fullShare} A w : sProp 𝕄)) := by
  refine (Idealize.SL.BI.bigSep_exists_pi (M := 𝕄) (Y := fun w => Buf Val (((cfgs p).spec w).arr.view.loc (c.tc : Thread nD τ)))
    Finset.univ _).trans ?_
  iintro ⟨%A, Ha⟩
  ihave Ha2 := (Idealize.SL.BI.bigSep_pure_sep (M := 𝕄) Finset.univ (fun w => R w (A w))
    (fun w => (((c.tc : Thread nD τ).loc (arrRef (cfgs p).spec w)) ↦{fullShare} A w : sProp 𝕄))) $$ Ha
  icases Ha2 with ⟨%hA', Ha⟩
  iexists A
  isplitr; · ipureintro; exact fun w => hA' w (Finset.mem_univ w)
  iexact Ha

/-- The converse: arrays at contents with a property are arrays at some contents with it. -/
theorem arrays_close (c : Dev nD) (R : (w : Fin (cfgs p).W) → Buf Val (((cfgs p).spec w).arr.view.loc (c.tc : Thread nD τ)) → Prop)
    (A : (w : Fin (cfgs p).W) → Buf Val (((cfgs p).spec w).arr.view.loc (c.tc : Thread nD τ))) (hA : ∀ w, R w (A w)) :
    (bigSep Finset.univ fun w => (((c.tc : Thread nD τ).loc (arrRef (cfgs p).spec w)) ↦{fullShare} A w : sProp 𝕄))
      ⊢ bigSep Finset.univ fun w => iprop(∃ F, ⌜R w F⌝ ∗ (((c.tc : Thread nD τ).loc (arrRef (cfgs p).spec w)) ↦{fullShare} F : sProp 𝕄)) := by
  refine Idealize.SL.BI.bigSep_mono fun w _ => ?_
  show (((c.tc : Thread nD τ).loc (arrRef (cfgs p).spec w)) ↦{fullShare} A w : sProp 𝕄)
    ⊢ iprop(∃ F, ⌜R w F⌝ ∗ (((c.tc : Thread nD τ).loc (arrRef (cfgs p).spec w)) ↦{fullShare} F : sProp 𝕄))
  iintro H; iexists (A w); isplitr; · ipureintro; exact hA w
  iexact H

/-- The run of one region between host lines, from relational proof data: it ends in `Ends` on every core. -/
theorem run_around (kit : LaunchFacts (nD := nD) (τ := τ) cfgs p) (defs₀ : Defs nD τ sig Val Λ₀) (𝒱₀ : Variants)
    (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c) :
    θ_run (Pipeline.defs (fun q => Cfg.toPCfg (Val := Val) (cfgs q)) defs₀) (onTc main) ⟨m, fun _ => 0, g⟩
      (fun r => ∀ c, Ends cfgs p c (rdat c) (V₀ c) opss r.2) :=
  RDat.θ_run_region_tail cfgs () kit.cellOf_inj p kit.win (OwnSemFacts.none (cfgs p).spec) emb₁ defs₀ 𝒱₀ rdat m g main
    (fun _ => chain (opss.map StableHlo.seq)) hbody kit.block_pos kit.arr_whole kit.stage_whole hshare howed
    (G := fun _ => iprop(emp)) (u₀ := initOf (cells cfgs kit.cellOf_inj) (launchToks cfgs kit.cellOf_inj))
    (hu₀ := by
      iintro Hu; imodintro
      isplitl [Hu]
      · iapply (show (ownU _ : sProp 𝕄) ⊢ BI.own (emb₁ (initOf (cells cfgs kit.cellOf_inj) (launchToks cfgs kit.cellOf_inj))) from .rfl)
        iexact Hu
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain) (hA := hA)
    (X := fun c => iprop(∃ r, prngReg c r)) (Y := fun _ => iprop(emp))
    (Z := fun c => unscopedRest (Ix := Unit) (Name := ℕ) (U := UR sig nD τ) (Lvl := ℕ) (cfgs p).spec c fun b => V₀ c (Proc.devRef .tc b))
    (Z' := fun c => iprop(∃ A, ⌜∀ w, (rdat c).ArrAt w (cfgs p).N (A w)⌝
      ∗ unscopedRest (Ix := Unit) (Name := ℕ) (U := UR sig nD τ) (Lvl := ℕ) (cfgs p).spec c
          fun b => StableHlo.after opss.flatten (withArrays (cfgs p).spec c (V₀ c) A) (Proc.devRef .tc b)))
    (hX := fun c => by
      iintro ⟨HU, -, -, -, Hp, -⟩; imodintro
      isplitl [Hp]; · iexists _; iexact Hp
      iexact HU)
    (hin := fun c => by
      rw [hΦ]; unfold ΦA
      iintro ⟨Hp, Hr⟩
      isplitl [Hr] <;> iassumption)
    (hout := fun c => by
      rw [hΦ, ownSems0_none]; unfold ΦA
      iintro ⟨Hr, -⟩
      isplitr; · iempintro
      isplitr; · iempintro
      iexact Hr)
    (htail := fun c Q' => by
      iintro ⟨Hk, Hb, Ha, HZ⟩
      ihave Ha1 := (arrays_open cfgs p c (fun w F => (rdat c).ArrAt w (cfgs p).N F)) $$ Ha
      icases Ha1 with ⟨%A, %hA'', Ha⟩
      iapply (tail_seqs_bufs (fun q => (cfgs q).toPCfg (Val := Val)) defs₀ 𝒱₀ Prefetch.none (cfgs p).spec c (V₀ c) A opss hsub hfresh hkeep Q')
      rw [unscopedRestP_none, unscopedRestP_none, ← arrays_bufs cfgs p kit c (V₀ c) A]
      isplitl [Hk]
      · iintro ⟨Ha, Hu⟩
        iapply Hk
        isplitl [Ha]
        · iapply (arrays_close cfgs p c (fun w F => (rdat c).ArrAt w (cfgs p).N F) A hA'')
          iexact Ha
        · iexists A; isplitr; · ipureintro; exact hA''
          iexact Hu
      · isplitl [Hb]; · iexact Hb
        isplitl [Ha]; · iexact Ha
        iexact HZ)
    (QY := fun c s => ∃ A : (w : Fin (cfgs p).W) → Buf Val (((cfgs p).spec w).arr.view.loc (c.tc : Thread nD τ)),
      (∀ w, (rdat c).ArrAt w (cfgs p).N (A w)) ∧
      ∀ b ∈ restRefs sig (cfgs p).spec, s.mem ((c.tc : Thread nD τ).loc b)
        = StableHlo.after opss.flatten (withArrays (cfgs p).spec c (V₀ c) A) (Proc.devRef .tc b))
    (hY := fun c s' => by
      iintro ⟨-, HZ, HSI⟩
      icases HZ with ⟨%A, %hA', HZ⟩
      unfold unscopedRest
      ihave HZ' := (pointsTo_read_all (restRefs sig (cfgs p).spec) (fun b => (c.tc : Thread nD τ).loc b) _ s') $$ [HZ HSI]
      · isplitl [HZ] <;> iassumption
      icases HZ' with ⟨%hZ, HSI⟩
      imodintro
      isplitr
      · ipureintro; exact ⟨A, hA', hZ⟩
      · iexact HSI)
    (hQ := fun _ h c => h c)

end Cert.Around

end
-- ==== Proof.Value.Point.lean ====
/- What each grid point of `Cert.KernelIdeal` writes, over the extended reals: the row-by-row product of the activations with the weight
   rows of its columns, plus the bias. Columns 4096 t … 4096 t + 4095 are written at point `t` before the last, columns 98304 … 99999
   at the last; after point `t` every column below 4096 (t + 1) holds the final result. -/
module

public import proofs.«01_k».proof.Proof.Run.KernelIdeal
public import Idealize.ShloMosaic.Lib.Pointwise

@[expose] public section

set_option maxRecDepth 16384

noncomputable section

namespace Cert.KernelIdeal.Value

open Cert.KernelIdeal Cert.KernelIdeal.Gen Cert.KernelIdeal.Body Cert.KernelIdeal.Run
open Idealize.ShloMosaic Idealize.ShloMosaic.TcCoe

variable (m : (ℓ : Loc nD τ sig) → Buf (Elt Ideal) ℓ)

/-- The activations, the weights and the bias row, as the region finds them. -/
abbrev act (c : Dev nD) : Vec Ideal S8x768 .f32 := V m c main_v0
abbrev wts (c : Dev nD) : Vec Ideal S100000x768 .f32 := V m c main_arg2
abbrev bias (c : Dev nD) : Vec Ideal S1x100000 .f32 := V m c main_v1

/-- The result at row `r` and column `n`: the product of activation row `r` with weight row `n`, plus bias entry `n`. -/
def entry (c : Dev nD) (r : Fin 8) (n : Fin 100000) : EReal :=
  (∑ k : Fin 768, act m c (ix2 r k) * wts m c (ix2 n k)) + bias m c (ix2 0 n)

/-- The payload of a point before the last, at an element. -/
theorem pay1_apply (x : Vec Ideal S8x768 .f32) (w : Vec Ideal S4096x768 .f32) (b : Vec Ideal S1x4096 .f32) (r : Fin 8) (l : Fin 4096) :
    k0_pay1 x w b (ix2 r l) = (∑ k : Fin 768, x (ix2 r k) * w (ix2 l k)) + b (ix2 0 l) := by
  pointwise [k0_pay1]

/-- The payload of the last point, at an element. -/
theorem pay2_apply (x : Vec Ideal S8x768 .f32) (w : Vec Ideal S1696x768 .f32) (b : Vec Ideal S1x1696 .f32) (r : Fin 8) (l : Fin 1696) :
    k0_pay2 x w b (ix2 r l) = (∑ k : Fin 768, x (ix2 r k) * w (ix2 l k)) + b (ix2 0 l) := by
  pointwise [k0_pay2]

/-- The activations' block is the whole array, -/
theorem block_0 (c : Dev nD) (t : Fin cfg0.N) (r : Fin 8) (k : Fin 768) : iblk m c 0 t (ix2 r k) = act m c (ix2 r k) := by
  unfold iblk
  show act m c _ = act m c _
  refine congrArg (act m c) (funext fun a => Fin.ext ?_)
  match a with
  | ⟨0, _⟩ => exact (show 0 * 8 + 1 * r.val = r.val by omega)
  | ⟨1, _⟩ => exact (show 0 * 768 + 1 * k.val = k.val by omega)
/-- and so is the bias row's. -/
theorem block_2 (c : Dev nD) (t : Fin cfg0.N) (z : Fin 1) (n : Fin 100000) : iblk m c 2 t (ix2 z n) = bias m c (ix2 z n) := by
  unfold iblk
  show bias m c _ = bias m c _
  refine congrArg (bias m c) (funext fun a => Fin.ext ?_)
  match a with
  | ⟨0, _⟩ => exact (show 0 * 1 + 1 * z.val = z.val by omega)
  | ⟨1, _⟩ => exact (show 0 * 100000 + 1 * n.val = n.val by omega)

/-- How many rows of the weight block at point `t` lie inside the array. -/
theorem rows_inside : ∀ t : Fin cfg0.N, win0_1.xsize (grid0.coords t) 0 = min 4096 (100000 - 4096 * t.val) :=
  (by decide +kernel : ∀ t : Fin grid0.N, win0_1.xsize (grid0.coords t) 0 = min 4096 (100000 - 4096 * t.val))
theorem lanes_inside : ∀ t : Fin cfg0.N, win0_1.xsize (grid0.coords t) 1 = 768 :=
  (by decide +kernel : ∀ t : Fin grid0.N, win0_1.xsize (grid0.coords t) 1 = 768)
/-- The weight block's place in the array: block row `t`, block column 0. -/
theorem index_1 : ∀ t : Fin cfg0.N, win0_1.index t 0 = t.val ∧ win0_1.index t 1 = 0 :=
  (by decide +kernel : ∀ t : Fin grid0.N, win0_1.index t 0 = t.val ∧ win0_1.index t 1 = 0)

/-- Row `r` of the weight block found at point `t`, where it lies inside the array, is row `4096 t + r` of the weights. -/
theorem weight_apply (c : Dev nD) (t : Fin cfg0.N) (d : Vec Ideal S4096x768 .f32) (r : Fin 4096) (k : Fin 768)
    (h : 4096 * t.val + r.val < 100000) : weight m c t d (ix2 r k) = wts m c (ix2 ⟨4096 * t.val + r.val, h⟩ k) := by
  have hm : win0_1.moved (grid0.coords t) (ix2 r k) = true := (win0_1.moved_iff _ _).mpr fun a => by
    match a with
    | ⟨0, _⟩ =>
      show r.val < win0_1.xsize (grid0.coords t) 0
      rw [rows_inside]; have := r.isLt; omega
    | ⟨1, _⟩ =>
      show k.val < win0_1.xsize (grid0.coords t) 1
      rw [lanes_inside]; exact k.isLt
  unfold weight Pipeline.Window.fill
  rw [dif_pos hm]
  unfold iblk
  show wts m c _ = wts m c _
  refine congrArg (wts m c) (funext fun a => Fin.ext ?_)
  match a with
  | ⟨0, _⟩ =>
    show win0_1.index t 0 * 4096 + 1 * r.val = 4096 * t.val + r.val
    rw [(index_1 t).1]; omega
  | ⟨1, _⟩ =>
    show win0_1.index t 1 * 768 + 1 * k.val = k.val
    rw [(index_1 t).2]; omega

/-- The column a point's rectangle places at `l`. -/
theorem colRect_emb (t : Fin cfg0.N) (h : k0_cond1 (grid0.coords t) = 1#1) (r : Fin 8) (l : Fin 4096) (n : Fin 100000)
    (hn : n.val = 4096 * t.val + l.val) : (colRect (grid0.coords t) h).emb (ix2 r l) = ix2 r n := by
  refine funext fun a => Fin.ext ?_
  rw [Rect.emb_apply]
  match a with
  | ⟨0, _⟩ =>
    show k0_off2 (grid0.coords t) 0 + 1 * r.val = r.val
    rw [k0_off2_eq]; exact (show 0 + 1 * r.val = r.val by omega)
  | ⟨1, _⟩ =>
    show k0_off2 (grid0.coords t) 1 + 1 * l.val = n.val
    rw [k0_off2_eq, hn]
    have e := coord_val t
    exact (show 4096 * (grid0.coords t 0).val + 1 * l.val = 4096 * t.val + l.val by rw [e]; omega)

/-- The bias entry a point's rectangle places at `l`. -/
theorem biasRect_apply (c : Dev nD) (t : Fin cfg0.N) (h : k0_cond1 (grid0.coords t) = 1#1) (l : Fin 4096) (n : Fin 100000)
    (hn : n.val = 4096 * t.val + l.val) : View.ld (iblk m c 2 t) (biasRect (grid0.coords t) h) (ix2 0 l) = bias m c (ix2 0 n) := by
  rw [← block_2 m c t]
  refine congrArg (iblk m c 2 t) (funext fun a => Fin.ext ?_)
  match a with
  | ⟨0, _⟩ =>
    show k0_off1 (grid0.coords t) 0 + 1 * 0 = 0
    rw [k0_off1_eq]; rfl
  | ⟨1, _⟩ =>
    show k0_off1 (grid0.coords t) 1 + 1 * l.val = n.val
    rw [k0_off1_eq, hn]
    have e := coord_val t
    exact (show 4096 * (grid0.coords t 0).val + 1 * l.val = 4096 * t.val + l.val by rw [e]; omega)

/-- What holds of the result's buffer after point `t`: every column below 4096 (t + 1) is final. -/
def Filled (c : Dev nD) (t : Fin cfg0.N) (X : Vec Ideal S8x100000 .f32) : Prop :=
  ∀ (r : Fin 8) (n : Fin 100000), n.val < 4096 * (t.val + 1) → X (ix2 r n) = entry m c r n

/-- A written rectangle, read at the place of one of its elements. -/
theorem overlay_at {sh : Shape} {α : Type} (R : Rect sh) (X : sh.Idx → α) (G : R.shape.Idx → α) (i : R.shape.Idx) (j : sh.Idx)
    (h : R.emb i = j) : R.overlay X G j = G i := h ▸ R.overlay_emb X G i

/-- What a point before the last writes at column `n` of its own is the result there. -/
theorem written_block (c : Dev nD) (t : Fin cfg0.N) (h : k0_cond1 (grid0.coords t) = 1#1) (d : Vec Ideal S4096x768 .f32)
    (r : Fin 8) (l : Fin 4096) (n : Fin 100000) (hn : n.val = 4096 * t.val + l.val) :
    k0_pay1 (iblk m c 0 t) (weight m c t d) (View.ld (iblk m c 2 t) (biasRect (grid0.coords t) h)) (ix2 r l) = entry m c r n := by
  have hb : 4096 * t.val + l.val < 100000 := hn ▸ n.isLt
  obtain rfl : n = ⟨4096 * t.val + l.val, hb⟩ := Fin.ext hn
  refine (pay1_apply _ _ _ r l).trans (congrArg₂ (· + ·) (Finset.sum_congr rfl fun k _ => ?_) (biasRect_apply m c t h l _ rfl))
  exact congrArg₂ (· * ·) (block_0 m c t r k) (weight_apply m c t d l k hb)

/-- A point's write, read at a column of its own, over any earlier contents. -/
theorem overlay_block (t : Fin cfg0.N) (h : k0_cond1 (grid0.coords t) = 1#1) (X : Vec Ideal S8x100000 .f32) (P : Vec Ideal S8x4096 .f32)
    (r : Fin 8) (l : Fin 4096) (n : Fin 100000) (hn : n.val = 4096 * t.val + l.val) :
    (colRect (grid0.coords t) h).overlay X P (ix2 r n) = P (ix2 r l) :=
  overlay_at (colRect (grid0.coords t) h) X P (ix2 r l) (ix2 r n) (colRect_emb t h r l n hn)

/-- A point before the last makes its own columns final and keeps the earlier ones. -/
theorem filled_block (c : Dev nD) (t : Fin cfg0.N) (h : k0_cond1 (grid0.coords t) = 1#1) (d : Vec Ideal S4096x768 .f32)
    (X : Vec Ideal S8x100000 .f32)
    (hX : ∀ ht : t.val ≠ 0, Filled m c ⟨t.val - 1, Nat.lt_of_le_of_lt (Nat.sub_le _ _) t.isLt⟩ X) :
    Filled m c t ((colRect (grid0.coords t) h).overlay X
      (k0_pay1 (iblk m c 0 t) (weight m c t d) (View.ld (iblk m c 2 t) (biasRect (grid0.coords t) h)))) := by
  intro r n hn
  by_cases hlo : 4096 * t.val ≤ n.val
  · obtain ⟨l, hl⟩ : ∃ l : Fin 4096, n.val = 4096 * t.val + l.val :=
      ⟨⟨n.val - 4096 * t.val, by omega⟩, (Nat.add_sub_cancel' hlo).symm⟩
    exact (overlay_block t h X _ r l n hl).trans (written_block m c t h d r l n hl)
  · refine (Rect.overlay_of_not_mem _ X _ fun hmem => hlo ?_).trans
      (hX (by omega) r n (show n.val < 4096 * (t.val - 1 + 1) by omega))
    have h1 := ((Rect.mem_set_unit).mp hmem 1).1
    rw [k0_off2_eq] at h1
    have h2 : 4096 * (grid0.coords t 0).val ≤ n.val := h1
    rwa [coord_val t] at h2

/-- The column the last point's rectangle places at `l`. -/
theorem colRectLast_emb (r : Fin 8) (l : Fin 1696) (n : Fin 100000) (hn : n.val = 98304 + l.val) :
    colRectLast.emb (ix2 r l) = ix2 r n :=
  Rect.emb_eq_of_coords _ _ _ fun a => match a with
    | ⟨0, _⟩ => (show r.val = 0 + 1 * r.val by omega)
    | ⟨1, _⟩ => (show n.val = 98304 + 1 * l.val by omega)

/-- The last point's write, read at a column of its own, over any earlier contents. -/
theorem overlay_last (X : Vec Ideal S8x100000 .f32) (P : Vec Ideal S8x1696 .f32) (r : Fin 8) (l : Fin 1696) (n : Fin 100000)
    (hn : n.val = 98304 + l.val) : colRectLast.overlay X P (ix2 r n) = P (ix2 r l) :=
  overlay_at colRectLast X P (ix2 r l) (ix2 r n) (colRectLast_emb r l n hn)

/-- The bias entry the last point's rectangle places at `l`. -/
theorem biasRectLast_apply (c : Dev nD) (t : Fin cfg0.N) (l : Fin 1696) (n : Fin 100000) (hn : n.val = 98304 + l.val) :
    View.ld (iblk m c 2 t) biasRectLast (ix2 0 l) = bias m c (ix2 0 n) :=
  (congrArg (iblk m c 2 t) (Rect.emb_eq_of_coords biasRectLast (ix2 0 l) (ix2 0 n) fun a => match a with
    | ⟨0, _⟩ => (show 0 = 0 + 1 * 0 from rfl)
    | ⟨1, _⟩ => (show n.val = 98304 + 1 * l.val by omega))).trans (block_2 m c t 0 n)

/-- The weight row the last point's rectangle places at `l`. -/
theorem rowRectLast_apply (w : Vec Ideal S4096x768 .f32) (l : Fin 1696) (l' : Fin 4096) (hl : l'.val = l.val) (k : Fin 768) :
    View.ld w rowRectLast (ix2 l k) = w (ix2 l' k) :=
  congrArg w (Rect.emb_eq_of_coords rowRectLast (ix2 l k) (ix2 l' k) fun a => match a with
    | ⟨0, _⟩ => (show l'.val = 0 + 1 * l.val by omega)
    | ⟨1, _⟩ => (show k.val = 0 + 1 * k.val by omega))

/-- What the last point writes at column `n` of its own is the result there. -/
theorem written_last (c : Dev nD) (t : Fin cfg0.N) (ht : t.val = 24) (d : Vec Ideal S4096x768 .f32)
    (r : Fin 8) (l : Fin 1696) (n : Fin 100000) (hn : n.val = 98304 + l.val) :
    k0_pay2 (iblk m c 0 t) (View.ld (weight m c t d) rowRectLast) (View.ld (iblk m c 2 t) biasRectLast) (ix2 r l) = entry m c r n := by
  have hl : l.val < 4096 := Nat.lt_trans l.isLt (by decide)
  have e : 4096 * t.val + l.val = n.val := by omega
  have hb : 4096 * t.val + l.val < 100000 := e ▸ n.isLt
  obtain rfl : n = ⟨4096 * t.val + l.val, hb⟩ := Fin.ext e.symm
  refine (pay2_apply _ _ _ r l).trans (congrArg₂ (· + ·) (Finset.sum_congr rfl fun k _ => ?_) (biasRectLast_apply m c t l _ hn))
  exact congrArg₂ (· * ·) (block_0 m c t r k)
    ((rowRectLast_apply _ l ⟨l.val, hl⟩ rfl k).trans (weight_apply m c t d ⟨l.val, hl⟩ k hb))

/-- The last point makes the remaining columns final and keeps the earlier ones. -/
theorem filled_last (c : Dev nD) (t : Fin cfg0.N) (ht : t.val = 24) (d : Vec Ideal S4096x768 .f32) (X : Vec Ideal S8x100000 .f32)
    (hX : ∀ ht : t.val ≠ 0, Filled m c ⟨t.val - 1, Nat.lt_of_le_of_lt (Nat.sub_le _ _) t.isLt⟩ X) :
    Filled m c t (colRectLast.overlay X
      (k0_pay2 (iblk m c 0 t) (View.ld (weight m c t d) rowRectLast) (View.ld (iblk m c 2 t) biasRectLast))) := by
  intro r n _
  by_cases hlo : 98304 ≤ n.val
  · obtain ⟨l, hl⟩ : ∃ l : Fin 1696, n.val = 98304 + l.val :=
      ⟨⟨n.val - 98304, by have := n.isLt; omega⟩, (Nat.add_sub_cancel' hlo).symm⟩
    exact (overlay_last X _ r l n hl).trans (written_last m c t ht d r l n hl)
  · exact (Rect.overlay_of_not_mem _ X _ fun hmem => hlo ((Rect.mem_set_unit).mp hmem 1).1).trans
      (hX (by omega) r n (show n.val < 4096 * (t.val - 1 + 1) by omega))

end Cert.KernelIdeal.Value
-- ==== Proof.Value.Result.lean ====
/- The value both programs compute, over the extended reals: at batch row r and vocabulary entry n, the product of activation row r with
   weight row n, plus bias entry n. -/
module

public import Idealize.ShloMosaic.Lib.Pointwise
public import proofs.«01_k».proof.KernelIdeal

@[expose] public section

noncomputable section

namespace Cert.Value

open Cert.KernelIdeal Idealize.ShloMosaic

/-- The projection of the activations `x` on the rows of `w`, plus the bias `b`. -/
def logits (x : Vec Ideal S8x1x768 .f32) (w : Vec Ideal S100000x768 .f32) (b : Vec Ideal S100000 .f32) : Vec Ideal S8x1x100000 .f32 :=
  fun j => (∑ k : Fin 768, x (ix3 (j 0) 0 k) * w (ix2 (j 2) k)) + b (ix1 (j 2))

end Cert.Value

end
-- ==== Proof.Value.Run.lean ====
/- The run of `Cert.KernelIdeal` with its result: the array that the region writes back once, after the last point, holds the final
   result at every column, and the line after the region gives it the result's shape. -/
module

public import proofs.«01_k».proof.Proof.Around
public import proofs.«01_k».proof.Proof.Value.Point
public import proofs.«01_k».proof.Proof.Value.Result
public import Idealize.ShloMosaic.Lib.Pipeline.ValueKit

@[expose] public section

set_option maxRecDepth 16384

noncomputable section

namespace Cert.KernelIdeal.Value

open Cert.KernelIdeal Cert.KernelIdeal.Gen Cert.KernelIdeal.Body Cert.KernelIdeal.Run
open Idealize.ShloMosaic Idealize.ShloMosaic.TcCoe Idealize.ShloMosaic.StableHlo Idealize.SL.Sem

variable (m : (ℓ : Loc nD τ sig) → Buf (Elt Ideal) ℓ)

/-! ## What the lines around the region leave -/

/-- A vector laid as one row, at column `k` of the row. -/
theorem row_apply {n : Nat} (x : Vec Ideal ⟨1, ![n]⟩ .f32) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A matrix given a unit axis between its two, at an element. -/
theorem middle_apply {a b : Nat} (x : Vec Ideal ⟨2, ![a, b]⟩ .f32) (h : (⟨2, ![a, b]⟩ : Shape).ShapeCasts ⟨3, ![a, 1, b]⟩)
    (r : Fin a) (z : Fin 1) (k : Fin b) : shapeCast ⟨3, ![a, 1, b]⟩ x h (ix3 r z k) = x (ix2 r k) :=
  shapeCast_apply x h (ix3 r z k) (ix2 r k) (by
    rw [Shape.rowMajor_val_two, Shape.rowMajor_val_three]
    show r.val * b + k.val = (r.val * 1 + z.val) * b + k.val
    rw [Nat.mul_one, show z.val = 0 by omega, Nat.add_zero])

/-- The activations are the first argument with its unit axis dropped. -/
theorem act_eq (c : Dev nD) :
    act m c = shapeCast S8x768 (m ((c.tc : Thread nD τ).loc main_arg0) : Vec Ideal S8x1x768 .f32) shapeCasts_S8x1x768_S8x768 := by
  show StableHlo.after (List.flatten [hostOps0]) (fun b => m (c, b)) (Proc.devRef .tc main_v0) = _
  simp only [hostOps0, List.flatten_cons, List.flatten_nil, List.append_nil, List.cons_append, List.nil_append]
  after_results_simp <;> rfl

/-- The bias row is the last argument with a unit axis added. -/
theorem bias_eq (c : Dev nD) :
    bias m c = shapeCast S1x100000 (m ((c.tc : Thread nD τ).loc main_arg3) : Vec Ideal S100000 .f32) shapeCasts_S100000_S1x100000 := by
  show StableHlo.after (List.flatten [hostOps0]) (fun b => m (c, b)) (Proc.devRef .tc main_v1) = _
  simp only [hostOps0, List.flatten_cons, List.flatten_nil, List.append_nil, List.cons_append, List.nil_append]
  after_results_simp <;> rfl

/-- The result at row `r` and column `n`, of the arguments. -/
theorem entry_eq (c : Dev nD) (r : Fin 8) (z : Fin 1) (n : Fin 100000) :
    entry m c r n = Cert.Value.logits (m ((c.tc : Thread nD τ).loc main_arg0)) (m ((c.tc : Thread nD τ).loc main_arg2))
      (m ((c.tc : Thread nD τ).loc main_arg3)) (ix3 r z n) := by
  have hw : wts m c = m ((c.tc : Thread nD τ).loc main_arg2) := V_main_arg2 m c
  have hx : ∀ k : Fin 768, act m c (ix2 r k) = m ((c.tc : Thread nD τ).loc main_arg0) (ix3 r 0 k) := fun k => by
    rw [act_eq]; pointwise
  have hb : bias m c (ix2 0 n) = m ((c.tc : Thread nD τ).loc main_arg3) (ix1 n) := by
    rw [bias_eq]; exact row_apply _ shapeCasts_S100000_S1x100000 n
  exact congrArg₂ (· + ·) (Finset.sum_congr rfl fun k _ => congrArg₂ (· * ·) (hx k) (congrFun hw (ix2 n k))) hb

/-! ## What the region writes back -/

/-- The result's window is written back once, whole, after the last point. -/
theorem result_whole (t₀ : Fin cfg0.N) (h₀ : t₀.val = 24) : (cfg0.win 3).WholeAt t₀ := by
  refine ⟨(flush0_3 t₀).mpr (by rw [h₀]), fun t ht => Fin.ext ?_, fun a => ⟨?_, ?_⟩⟩
  · have h := (flush0_3 t).mp ht
    have hlt : t.val < 25 := N_0 ▸ t.isLt
    omega
  · fin_cases a <;> rfl
  · fin_cases a <;> rfl

/-- Contents that the relation allows the result's array after the run are the final result at every place. -/
theorem array_eq (c : Dev nD) (G : Vec Ideal S8x100000 .f32)
    (hG : ((dats m 0 c).toRRel fgt (onResult (Filled m c))).ArrAt 3 cfg0.N G) (r : Fin 8) (n : Fin 100000) :
    G (ix2 r n) = entry m c r n := by
  obtain ⟨X, hX, hj⟩ := Pipeline.RDat.ArrAt.emb_eq_of_wholeAt hG (result_whole ⟨24, (show cfg0.N = 25 from N_0).symm ▸ (by decide : 24 < 25)⟩ rfl)
  have hF : Filled m c _ X := Pipeline.Dat.toRRel_leaves _ (w := 3) rfl hX
  exact (hj (ix2 r n)).trans (hF r n (by have := n.isLt; show n.val < 4096 * (24 + 1); omega))

/-! ## The run -/

/-- The line after the region, from contents of the region's array: the same elements, in the result's shape. -/
theorem tail_eq (c : Dev nD) (A : (w : Fin cfg0.W) → Buf (Elt Ideal) ((spec0 w).arr.view.loc (c.tc : Thread nD τ))) :
    StableHlo.after (List.flatten [hostOps1]) (Pipeline.withArrays spec0 c (V0 m c) A) (Proc.devRef .tc main_v3)
      = shapeCast S8x1x100000 (A 3 : Vec Ideal S8x100000 .f32) shapeCasts_S8x100000_S8x1x100000 := by
  have h3 : Pipeline.withArrays spec0 c (V0 m c) A (Proc.devRef .tc main_v2) = A 3 :=
    Pipeline.withArrays_arr spec0 launch0.win.arr_inj c (V0 m c) A 3
  rw [← h3]
  simp only [hostOps1, List.flatten_cons, List.flatten_nil, List.append_nil, List.cons_append, List.nil_append]
  after_results_simp <;> rfl

/-- Every run of the program ends with the result at `logits` of the arguments. -/
theorem run_value (ρ : Dev nD → PrngReg) : θ_run defs (onTc (τ := τ) (main (F := Ideal))) ⟨m, fun _ => 0, ρ⟩ (fun r => ∀ c : Dev nD,
    r.2.mem ((c.tc : Thread nD τ).loc main_v3)
      = Cert.Value.logits (m ((c.tc : Thread nD τ).loc main_arg0)) (m ((c.tc : Thread nD τ).loc main_arg2))
          (m ((c.tc : Thread nD τ).loc main_arg3))) := by
  refine θ_run_mono (Cert.Around.run_around cfgs 0 launch0 defs₀ 𝒱₀ (fun c => (dats m 0 c).toRRel fgt (onResult (Filled m c))) m ρ main
    (fun c => (body_obligation m (Filled m c) c (filled_block m c) (filled_last m c)).toRRel)
    (fun c => (dats m 0 c).share_full fun _ => rfl) (fun _ _ => rfl) (V0 m) [hostOps1] sfx_sub sfx_fresh sfx_keeps
    (hmain m 𝒱₀) (fun _ _ => rfl) (fun _ _ => rfl)) ?_
  intro r hr c
  obtain ⟨-, A, hA, hrest⟩ := hr c
  refine (hrest main_v3 (Pipeline.mem_restRefs_of main_v3 (by decide) (by decide))).trans ((tail_eq m c A).trans ?_)
  funext j
  obtain ⟨r, z, n, rfl⟩ : ∃ (r : Fin 8) (z : Fin 1) (n : Fin 100000), j = ix3 r z n := ⟨j 0, j 1, j 2, eq_ix3 j⟩
  exact (middle_apply _ shapeCasts_S8x100000_S8x1x100000 r z n).trans
    ((array_eq m c (A 3) (hA 3) r n).trans (entry_eq m c r z n))

end Cert.KernelIdeal.Value

end
-- ==== Proof.Value.Reference.lean ====
/- The result of `Cert.ReferenceIdeal`, as its run states it: `logits` of the arguments. -/
module

public import proofs.«01_k».proof.Proof.Gen.ReferenceIdeal
public import proofs.«01_k».proof.Proof.Value.Result

@[expose] public section

set_option maxRecDepth 16384

noncomputable section

namespace Cert.ReferenceIdeal.Value

open Cert.ReferenceIdeal Cert.ReferenceIdeal.Gen Idealize.ShloMosaic Idealize.ShloMosaic.TcCoe

/-- The reference's product plus its bias, broadcast over the rows, is `logits`. -/
theorem term_eq (x : Vec Ideal S8x1x768 .f32) (w : Vec Ideal S100000x768 .f32) (b : Vec Ideal S100000 .f32) :
    (addf (F := Ideal) (Host.dotGeneral (φ₁ := .f32) (φ₂ := .f32) dot_S8x1x768_S100000x768_S8x1x100000_2_1_01_0_n_n none x w)
        (broadcastInDim S8x1x100000 ![0, 1, 2] bcast_S1x1x100000_S8x1x100000_0_1_2
          (broadcastInDim S1x1x100000 ![2] bcast_S100000_S1x1x100000_2 b)) : Vec Ideal S8x1x100000 .f32)
      = Cert.Value.logits x w b := by
  funext j
  obtain ⟨r, z, n, rfl⟩ : ∃ (r : Fin 8) (z : Fin 1) (n : Fin 100000), j = ix3 r z n := ⟨j 0, j 1, j 2, eq_ix3 j⟩
  obtain rfl : z = 0 := Subsingleton.elim _ _
  show _ = (∑ k : Fin 768, x (ix3 r 0 k) * w (ix2 n k)) + b (ix1 n)
  pointwise

end Cert.ReferenceIdeal.Value

end
-- ==== Proof.lean ====
/- The five claims about the vocabulary projection: the kernel (at its bit patterns and over the extended reals) and the reference leave
   their arguments as they were with every semaphore counter at zero, the idealized kernel is the kernel's own text, and over the
   extended reals the kernel and the reference end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run.Kernel
public import proofs.«01_k».proof.Proof.Run.KernelIdeal
public import proofs.«01_k».proof.Proof.Value.Run
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- Every run of the kernel at its bit patterns ends with the arguments as they were and every counter at zero. -/
theorem frame_kernel : Cert.quiescent_Kernel := fun m ρ _ => Cert.Kernel.Run.run_frame m ρ

/-- The same of the kernel over the extended reals. -/
theorem frame_kernelIdeal : Cert.quiescent_KernelIdeal := fun m ρ _ => Cert.KernelIdeal.Run.run_frame m ρ

/-- The same of the reference, which has no semaphore. -/
theorem frame_reference : Cert.quiescent_ReferenceIdeal := fun m ρ _ =>
  Idealize.ShloMosaic.θ_run_mono (Cert.ReferenceIdeal.Value.run m ρ) fun r h =>
    ⟨fun c => (h c).2, sem_eq_zero_of_no_sems (by decide) r.2⟩

/-- The kernel and the reference, over the extended reals, end with the same result: `logits` of the arguments. -/
theorem value : Cert.algebraic_KernelIdeal_ReferenceIdeal := by
  intro m ρ m' ρ' _ hargs
  refine ⟨fun c => Cert.Value.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact θ_run_mono (θ_run_and (Cert.KernelIdeal.Value.run_value m ρ) (Cert.KernelIdeal.Run.run_frame m ρ))
      fun r h c => ⟨h.1 c, h.2.1 c⟩
  · refine θ_run_mono (Cert.ReferenceIdeal.Value.run m' ρ') fun r h c => ⟨?_, (h c).2⟩
    obtain ⟨e0, -, e2, e3⟩ := hargs c
    refine (h c).1.trans ((Cert.ReferenceIdeal.Value.term_eq _ _ _).trans ?_)
    rw [e0, e2, e3]

/-- All five claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
